-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x1x8192 : Shape := ⟨3, ![256, 1, 8192]⟩
abbrev S4096x2816 : Shape := ⟨2, ![4096, 2816]⟩
abbrev S64x2816 : Shape := ⟨2, ![64, 2816]⟩
abbrev S256x8192 : Shape := ⟨2, ![256, 8192]⟩
abbrev S256x2816 : Shape := ⟨2, ![256, 2816]⟩
abbrev S4096x256 : Shape := ⟨2, ![4096, 256]⟩
abbrev S64x256 : Shape := ⟨2, ![64, 256]⟩
abbrev S256x256 : Shape := ⟨2, ![256, 256]⟩
abbrev S512x256 : Shape := ⟨2, ![512, 256]⟩
abbrev S4x256 : Shape := ⟨2, ![4, 256]⟩
abbrev S4x128x256 : Shape := ⟨3, ![4, 128, 256]⟩
abbrev S4x1x256 : Shape := ⟨3, ![4, 1, 256]⟩
abbrev S256x512 : Shape := ⟨2, ![256, 512]⟩
abbrev S256x1x2816 : Shape := ⟨3, ![256, 1, 2816]⟩

abbrev nBuf : Space → Nat
  | .hbm => 8
  | .vmem => 11
  | .smem => 0
  | _ => 0

abbrev bufTy : (tb : Table) → Fin (tcTables nBuf tb) → BufTy
  | .hbm, ⟨0, _⟩ => ⟨S256x1x8192, .bf16⟩
  | .hbm, ⟨1, _⟩ => ⟨S4096x2816, .i8⟩
  | .hbm, ⟨2, _⟩ => ⟨S64x2816, .bf16⟩
  | .hbm, ⟨3, _⟩ => ⟨S4096x2816, .i8⟩
  | .hbm, ⟨4, _⟩ => ⟨S64x2816, .bf16⟩
  | .hbm, ⟨5, _⟩ => ⟨S256x8192, .bf16⟩
  | .hbm, ⟨6, _⟩ => ⟨S256x2816, .bf16⟩
  | .hbm, ⟨7, _⟩ => ⟨S256x1x2816, .bf16⟩
  | .local _ .vmem, ⟨0, _⟩ => ⟨S256x8192, .bf16⟩
  | .local _ .vmem, ⟨1, _⟩ => ⟨S4096x256, .i8⟩
  | .local _ .vmem, ⟨2, _⟩ => ⟨S4096x256, .i8⟩
  | .local _ .vmem, ⟨3, _⟩ => ⟨S64x256, .bf16⟩
  | .local _ .vmem, ⟨4, _⟩ => ⟨S64x256, .bf16⟩
  | .local _ .vmem, ⟨5, _⟩ => ⟨S4096x256, .i8⟩
  | .local _ .vmem, ⟨6, _⟩ => ⟨S4096x256, .i8⟩
  | .local _ .vmem, ⟨7, _⟩ => ⟨S64x256, .bf16⟩
  | .local _ .vmem, ⟨8, _⟩ => ⟨S64x256, .bf16⟩
  | .local _ .vmem, ⟨9, _⟩ => ⟨S256x256, .bf16⟩
  | .local _ .vmem, ⟨10, _⟩ => ⟨S256x256, .bf16⟩
  | _, _ => ⟨S256x1x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S256x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x256 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x256 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S256x1x8192 : Shape := ⟨3, ![256, 1, 8192]⟩
abbrev S4096x2816 : Shape := ⟨2, ![4096, 2816]⟩
abbrev S64x2816 : Shape := ⟨2, ![64, 2816]⟩
abbrev S256x8192 : Shape := ⟨2, ![256, 8192]⟩
abbrev S256x4096 : Shape := ⟨2, ![256, 4096]⟩
abbrev S_ : Shape := ⟨0, ![]⟩
abbrev S32x2816 : Shape := ⟨2, ![32, 2816]⟩
abbrev S32x128x2816 : Shape := ⟨3, ![32, 128, 2816]⟩
abbrev S32x1x2816 : Shape := ⟨3, ![32, 1, 2816]⟩
abbrev S256x2816 : Shape := ⟨2, ![256, 2816]⟩
abbrev S256x1x2816 : Shape := ⟨3, ![256, 1, 2816]⟩

abbrev nBuf : Space → Nat
  | .hbm => 80
  | .vmem => 0
  | .smem => 0
  | _ => 0

abbrev bufTy : (tb : Table) → Fin (tcTables nBuf tb) → BufTy
  | .hbm, ⟨0, _⟩ => ⟨S256x1x8192, .bf16⟩
  | .hbm, ⟨1, _⟩ => ⟨S4096x2816, .i8⟩
  | .hbm, ⟨2, _⟩ => ⟨S64x2816, .bf16⟩
  | .hbm, ⟨3, _⟩ => ⟨S4096x2816, .i8⟩
  | .hbm, ⟨4, _⟩ => ⟨S64x2816, .bf16⟩
  | .hbm, ⟨5, _⟩ => ⟨S256x8192, .bf16⟩
  | .hbm, ⟨6, _⟩ => ⟨S256x4096, .bf16⟩
  | .hbm, ⟨7, _⟩ => ⟨S256x4096, .bf16⟩
  | .hbm, ⟨8, _⟩ => ⟨S4096x2816, .i32⟩
  | .hbm, ⟨9, _⟩ => ⟨S_, .i32⟩
  | .hbm, ⟨10, _⟩ => ⟨S4096x2816, .i32⟩
  | .hbm, ⟨11, _⟩ => ⟨S4096x2816, .i32⟩
  | .hbm, ⟨12, _⟩ => ⟨S32x2816, .bf16⟩
  | .hbm, ⟨13, _⟩ => ⟨S4096x2816, .bf16⟩
  | .hbm, ⟨14, _⟩ => ⟨S_, .bf16⟩
  | .hbm, ⟨15, _⟩ => ⟨S4096x2816, .bf16⟩
  | .hbm, ⟨16, _⟩ => ⟨S4096x2816, .bf16⟩
  | .hbm, ⟨17, _⟩ => ⟨S32x128x2816, .bf16⟩
  | .hbm, ⟨18, _⟩ => ⟨S32x1x2816, .bf16⟩
  | .hbm, ⟨19, _⟩ => ⟨S32x128x2816, .bf16⟩
  | .hbm, ⟨20, _⟩ => ⟨S32x128x2816, .bf16⟩
  | .hbm, ⟨21, _⟩ => ⟨S4096x2816, .bf16⟩
  | .hbm, ⟨22, _⟩ => ⟨S_, .i32⟩
  | .hbm, ⟨23, _⟩ => ⟨S4096x2816, .i32⟩
  | .hbm, ⟨24, _⟩ => ⟨S4096x2816, .i32⟩
  | .hbm, ⟨25, _⟩ => ⟨S32x2816, .bf16⟩
  | .hbm, ⟨26, _⟩ => ⟨S4096x2816, .bf16⟩
  | .hbm, ⟨27, _⟩ => ⟨S_, .bf16⟩
  | .hbm, ⟨28, _⟩ => ⟨S4096x2816, .bf16⟩
  | .hbm, ⟨29, _⟩ => ⟨S4096x2816, .bf16⟩
  | .hbm, ⟨30, _⟩ => ⟨S32x128x2816, .bf16⟩
  | .hbm, ⟨31, _⟩ => ⟨S32x1x2816, .bf16⟩
  | .hbm, ⟨32, _⟩ => ⟨S32x128x2816, .bf16⟩
  | .hbm, ⟨33, _⟩ => ⟨S32x128x2816, .bf16⟩
  | .hbm, ⟨34, _⟩ => ⟨S4096x2816, .bf16⟩
  | .hbm, ⟨35, _⟩ => ⟨S256x2816, .f32⟩
  | .hbm, ⟨36, _⟩ => ⟨S256x2816, .f32⟩
  | .hbm, ⟨37, _⟩ => ⟨S256x2816, .f32⟩
  | .hbm, ⟨38, _⟩ => ⟨S4096x2816, .i32⟩
  | .hbm, ⟨39, _⟩ => ⟨S_, .i32⟩
  | .hbm, ⟨40, _⟩ => ⟨S4096x2816, .i32⟩
  | .hbm, ⟨41, _⟩ => ⟨S4096x2816, .i32⟩
  | .hbm, ⟨42, _⟩ => ⟨S32x2816, .bf16⟩
  | .hbm, ⟨43, _⟩ => ⟨S4096x2816, .bf16⟩
  | .hbm, ⟨44, _⟩ => ⟨S_, .bf16⟩
  | .hbm, ⟨45, _⟩ => ⟨S4096x2816, .bf16⟩
  | .hbm, ⟨46, _⟩ => ⟨S4096x2816, .bf16⟩
  | .hbm, ⟨47, _⟩ => ⟨S32x128x2816, .bf16⟩
  | .hbm, ⟨48, _⟩ => ⟨S32x1x2816, .bf16⟩
  | .hbm, ⟨49, _⟩ => ⟨S32x128x2816, .bf16⟩
  | .hbm, ⟨50, _⟩ => ⟨S32x128x2816, .bf16⟩
  | .hbm, ⟨51, _⟩ => ⟨S4096x2816, .bf16⟩
  | .hbm, ⟨52, _⟩ => ⟨S_, .i32⟩
  | .hbm, ⟨53, _⟩ => ⟨S4096x2816, .i32⟩
  | .hbm, ⟨54, _⟩ => ⟨S4096x2816, .i32⟩
  | .hbm, ⟨55, _⟩ => ⟨S32x2816, .bf16⟩
  | .hbm, ⟨56, _⟩ => ⟨S4096x2816, .bf16⟩
  | .hbm, ⟨57, _⟩ => ⟨S_, .bf16⟩
  | .hbm, ⟨58, _⟩ => ⟨S4096x2816, .bf16⟩
  | .hbm, ⟨59, _⟩ => ⟨S4096x2816, .bf16⟩
  | .hbm, ⟨60, _⟩ => ⟨S32x128x2816, .bf16⟩
  | .hbm, ⟨61, _⟩ => ⟨S32x1x2816, .bf16⟩
  | .hbm, ⟨62, _⟩ => ⟨S32x128x2816, .bf16⟩
  | .hbm, ⟨63, _⟩ => ⟨S32x128x2816, .bf16⟩
  | .hbm, ⟨64, _⟩ => ⟨S4096x2816, .bf16⟩
  | .hbm, ⟨65, _⟩ => ⟨S256x2816, .f32⟩
  | .hbm, ⟨66, _⟩ => ⟨S256x2816, .f32⟩
  | .hbm, ⟨67, _⟩ => ⟨S256x2816, .f32⟩
  | .hbm, ⟨68, _⟩ => ⟨S256x2816, .f32⟩
  | .hbm, ⟨69, _⟩ => ⟨S256x2816, .f32⟩
  | .hbm, ⟨70, _⟩ => ⟨S_, .f32⟩
  | .hbm, ⟨71, _⟩ => ⟨S256x2816, .f32⟩
  | .hbm, ⟨72, _⟩ => ⟨S256x2816, .f32⟩
  | .hbm, ⟨73, _⟩ => ⟨S_, .f32⟩
  | .hbm, ⟨74, _⟩ => ⟨S256x2816, .f32⟩
  | .hbm, ⟨75, _⟩ => ⟨S256x2816, .f32⟩
  | .hbm, ⟨76, _⟩ => ⟨S256x2816, .f32⟩
  | .hbm, ⟨77, _⟩ => ⟨S256x2816, .f32⟩
  | .hbm, ⟨78, _⟩ => ⟨S256x2816, .bf16⟩
  | .hbm, ⟨79, _⟩ => ⟨S256x1x2816, .bf16⟩
  | _, _ => ⟨S256x1x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c_0 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_1 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_c_2 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_3 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_c_4 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_cst_5 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_call0_v0 : Ref sig .tc := ⟨.hbm, 68, rfl⟩
abbrev main_call0_v1 : Ref sig .tc := ⟨.hbm, 69, rfl⟩
abbrev main_call0_cst : Ref sig .tc := ⟨.hbm, 70, rfl⟩
abbrev main_call0_v2 : Ref sig .tc := ⟨.hbm, 71, rfl⟩
abbrev main_call0_v3 : Ref sig .tc := ⟨.hbm, 72, rfl⟩
abbrev main_call0_cst_0 : Ref sig .tc := ⟨.hbm, 73, rfl⟩
abbrev main_call0_v4 : Ref sig .tc := ⟨.hbm, 74, rfl⟩
abbrev main_call0_v5 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩

abbrev nD : Nat := 1
abbrev τ : Topo := Topo.v7x

variable {F : FTy → Type} [FloatOps F]
-- ==== Proof.Algebra.lean ====
/-
  The numbers behind the kernel, free of any program: what one packed byte stands for, and how the sum over the 4096
  packed rows is cut into eight chunks of 512.

  * `lowNibble b`, `highNibble b`: the two unsigned 4-bit fields of a byte, as extended reals. `low_kernel` and
    `high_kernel` say that the kernel's way of taking them (mask a byte; widen, shift, truncate) gives these, and
    `low_reference`, `high_reference` say the same of the reference's way (widen to 32 bits, then mask or shift).
  * `weight`: a field less the offset 8, times its group's scale.
  * `sum_chunks`: the sum over 4096 rows is the sum over 8 chunks of 512 rows each.
  * `chunks_eq`: adding to zero, chunk by chunk, first the chunk's low sum and then its high sum gives the whole low sum
    plus the whole high sum. Addition of extended reals is commutative and associative, so no value is excluded.
-/
module

public import Idealize.ShloMosaic.Lib.Pointwise

@[expose] public section

noncomputable section

namespace Cert.Int4

open Idealize.ShloMosaic
open scoped BigOperators

/-! ## One packed byte -/

/-- The low 4 bits of a byte, as an extended real. -/
def lowNibble (b : BitVec 8) : EReal := (((b &&& 15#8).toNat : ℝ) : EReal)
/-- The high 4 bits of a byte, as an extended real. -/
def highNibble (b : BitVec 8) : EReal := (((b >>> 4).toNat : ℝ) : EReal)

/-- Shifting a byte right inside 32 bits and truncating back to 8 bits is the byte's own logical shift. -/
theorem trunc_shift : ∀ b : BitVec 8, (BitVec.sshiftRight' (b.setWidth 32) 4#32).setWidth 8 = b >>> 4 := by decide +kernel
/-- The byte masked in 32 bits, read signed, is the byte masked in 8 bits, read unsigned. -/
theorem mask_signed : ∀ b : BitVec 8, ((b.setWidth 32) &&& 15#32).toInt = ((b &&& 15#8).toNat : ℤ) := by decide +kernel
/-- The byte shifted in 32 bits, read signed, is the byte shifted in 8 bits, read unsigned. -/
theorem shift_signed : ∀ b : BitVec 8, (BitVec.sshiftRight' (b.setWidth 32) 4#32).toInt = ((b >>> 4).toNat : ℤ) := by decide +kernel

/-- The kernel's low field: mask the byte, convert it as unsigned. -/
theorem low_kernel (b : BitVec 8) : FloatOps.uitofp (F := Ideal) .bf16 (IntOp.andi b 15#8) = lowNibble b := rfl
/-- The kernel's high field: widen the byte, shift it, truncate back, convert it as unsigned. -/
theorem high_kernel (b : BitVec 8) :
    FloatOps.uitofp (F := Ideal) .bf16 ((IntOp.shrsi .vector (b.setWidth 32) 4#32).setWidth 8) = highNibble b := by
  show ((((IntOp.shrsi .vector (b.setWidth 32) 4#32).setWidth 8).toNat : ℝ) : EReal) = _
  rw [show IntOp.shrsi .vector (b.setWidth 32) 4#32 = BitVec.sshiftRight' (b.setWidth 32) 4#32 from if_pos (by decide),
    trunc_shift]
  rfl
/-- The reference's low field: widen the byte, mask it, convert it as signed. -/
theorem low_reference (b : BitVec 8) : FloatOps.sitofp (F := Ideal) .bf16 (IntOp.andi (b.setWidth 32) 15#32) = lowNibble b := by
  show (((((b.setWidth 32) &&& 15#32).toInt : ℤ) : ℝ) : EReal) = _
  rw [mask_signed, Int.cast_natCast]
  rfl
/-- The reference's high field: widen the byte, shift it, convert it as signed. -/
theorem high_reference (b : BitVec 8) :
    FloatOps.sitofp (F := Ideal) .bf16 (IntOp.shrsi .host (b.setWidth 32) 4#32) = highNibble b := by
  show ((((IntOp.shrsi .host (b.setWidth 32) 4#32).toInt : ℤ) : ℝ) : EReal) = _
  rw [show IntOp.shrsi .host (b.setWidth 32) 4#32 = BitVec.sshiftRight' (b.setWidth 32) 4#32 from if_pos (by decide),
    shift_signed, Int.cast_natCast]
  rfl

/-- The weight that a field `f` in a group of scale `s` stands for: `(f − 8) · s`. -/
def weight (f s : EReal) : EReal := (f - Ideal.ofBits .bf16 0x4100#16) * s

/-! ## The sum over 4096 rows, in eight chunks of 512 -/

/-- Row `k` of chunk `c`. -/
abbrev row (c : Fin 8) (k : Fin 512) : Fin 4096 := ⟨512 * c.val + k.val, by omega⟩

/-- The sum over all rows is the sum over the chunks of the sums over a chunk's rows. -/
theorem sum_chunks (f : Fin 4096 → EReal) : ∑ k, f k = ∑ c : Fin 8, ∑ k : Fin 512, f (row c k) := by
  rw [← Fintype.sum_prod_type' (f := fun c k => f (row c k))]
  refine (Fintype.sum_equiv (finProdFinEquiv (m := 8) (n := 512)) _ _ fun p => congrArg f (Fin.ext ?_)).symm
  show 512 * p.1.val + p.2.val = p.2.val + 512 * p.1.val
  omega

/-- Eight chunks accumulated onto zero, each chunk's low sum before its high sum, are the low sum plus the high sum. -/
theorem chunks_eq (f g : Fin 4096 → EReal) (l h : Fin 8 → EReal)
    (hl : ∀ c, l c = ∑ k : Fin 512, f (row c k)) (hh : ∀ c, h c = ∑ k : Fin 512, g (row c k)) :
    0 + l 0 + h 0 + l 1 + h 1 + l 2 + h 2 + l 3 + h 3 + l 4 + h 4 + l 5 + h 5 + l 6 + h 6 + l 7 + h 7
      = (∑ k, f k) + ∑ k, g k := by
  rw [sum_chunks f, sum_chunks g, Fin.sum_univ_eight, Fin.sum_univ_eight]
  simp only [← hl, ← hh, zero_add]
  ac_rfl

end Cert.Int4

end
-- ==== Proof.Block.lean ====
/-
  What the kernel's body computes for one block of 256 output columns.

  The body takes the packed rows in eight chunks of 512. `lowWeights` and `highWeights` are a chunk's two dequantized
  512 × 256 weight matrices, `step` adds a chunk's two products to the accumulator, and `projection` is the accumulator
  after the eight steps. `out_eq` says that the block which the body stores is
  `projection(gate) · logistic(projection(gate)) · projection(up)`; `projection_apply` reads a projection at an index as
  the two sums over all 4096 packed rows.
-/
module

public import proofs.«01_k».proof.Proof.Algebra
public import proofs.«01_k».proof.Defs
public import proofs.«01_k».proof.Proof.Gen.KernelIdeal.Frame
public import Idealize.ShloMosaic.Lib.Pipeline.Value
public import Idealize.ShloMosaic.Lib.Pointwise

@[expose] public section

set_option maxRecDepth 16384

noncomputable section

namespace Cert.Int4

open Idealize.ShloMosaic Idealize.SL.Sem
open Cert.KernelIdeal Cert.KernelIdeal.Gen
open scoped BigOperators

section Terms

variable {F : FTy → Type} [FloatOps F]

/-- A chunk's weights from unsigned fields `v` (converted to bf16) and the scales of its four groups of 128 rows. -/
def scaled (v : FVec F S512x256 .bf16) (s : Vec F S4x256 .bf16) : FVec F S512x256 .bf16 :=
  shapeCast S512x256 (mulf (shapeCast S4x128x256 (subf v (broadcast S512x256 (Scalar.ofBits .bf16 0x4100#16))) shapeCasts_S512x256_S4x128x256)
    (broadcastTo S4x128x256 (shapeCast S4x1x256 s shapeCasts_S4x256_S4x1x256) broadcasts_S4x1x256_S4x128x256)) shapeCasts_S4x128x256_S512x256

/-- The weights of a chunk's low fields. -/
def lowWeights (b : Vec F S512x256 .i8) (s : Vec F S4x256 .bf16) : FVec F S512x256 .bf16 :=
  scaled (uitofp .bf16 (andi b (broadcast S512x256 15#8))) s

/-- The weights of a chunk's high fields. -/
def highWeights (b : Vec F S512x256 .i8) (s : Vec F S4x256 .bf16) : FVec F S512x256 .bf16 :=
  scaled (uitofp .bf16 (trunci 8 (shrsi (extui 32 b natLt_8_32) (broadcast S512x256 4#32)) natLt_8_32)) s

/-- One chunk's step: the accumulator plus the low product, plus the high product. -/
def step (acc : FVec F S256x256 .f32) (b : Vec F S512x256 .i8) (sl sh : Vec F S4x256 .bf16) (xl xh : Vec F S256x512 .bf16) :
    FVec F S256x256 .f32 :=
  addf (addf acc (matmul dot_S256x512_S512x256_S256x256_1_0_0_1_n_n none (shapeCast S256x512 xl shapeCasts_S256x512_S256x512)
      (lowWeights b sl) (constant S256x256 .f32 0x00000000#32)))
    (matmul dot_S256x512_S512x256_S256x256_1_0_0_1_n_n none (shapeCast S256x512 xh shapeCasts_S256x512_S256x512)
      (highWeights b sh) (constant S256x256 .f32 0x00000000#32))

/-- The accumulator after the eight chunks, from the activations `x`, a block `w` of packed codes and its scales `s`. -/
def projection (x : Vec F S256x8192 .bf16) (w : Vec F S4096x256 .i8) (s : Vec F S64x256 .bf16) : FVec F S256x256 .f32 :=
  step (step (step (step (step (step (step (step (broadcast S256x256 (Scalar.ofBits .f32 0x00000000#32))
    (View.ld w r0_0) (View.ld s r0_1) (View.ld s r0_2) (View.ld x r0_3) (View.ld x r0_4))
    (View.ld w r0_5) (View.ld s r0_6) (View.ld s r0_7) (View.ld x r0_8) (View.ld x r0_9))
    (View.ld w r0_10) (View.ld s r0_11) (View.ld s r0_12) (View.ld x r0_13) (View.ld x r0_14))
    (View.ld w r0_15) (View.ld s r0_16) (View.ld s r0_17) (View.ld x r0_18) (View.ld x r0_19))
    (View.ld w r0_20) (View.ld s r0_21) (View.ld s r0_22) (View.ld x r0_23) (View.ld x r0_24))
    (View.ld w r0_25) (View.ld s r0_26) (View.ld s r0_27) (View.ld x r0_28) (View.ld x r0_29))
    (View.ld w r0_30) (View.ld s r0_31) (View.ld s r0_32) (View.ld x r0_33) (View.ld x r0_34))
    (View.ld w r0_35) (View.ld s r0_36) (View.ld s r0_37) (View.ld x r0_38) (View.ld x r0_39)

theorem zero_off : (![0, 0] : Fin 2 → Nat) = fun _ => 0 := funext fun a => by fin_cases a <;> rfl

/-- The block the body stores: the gate projection, times its logistic, times the up projection, rounded to bf16. -/
theorem out_eq (x : Vec F S256x8192 .bf16) (wg : Vec F S4096x256 .i8) (sg : Vec F S64x256 .bf16) (wu : Vec F S4096x256 .i8)
    (su : Vec F S64x256 .bf16) :
    out0_5 x wg sg wu su = truncf .bf16 (mulf (mulf (projection x wg sg) (logistic (projection x wg sg))) (projection x wu su)) bitsLt_bf16_f32 := by
  unfold out0_5
  rw [View.canon_unit_zero zero_off]
  rfl

end Terms

/-! ## A step at an index, over the extended reals -/

/-- A chunk's low weight at row `k`, column `n`: the byte's low field less 8, times the scale of the row's group. -/
theorem lowWeights_apply (b : Vec Ideal S512x256 .i8) (s : Vec Ideal S4x256 .bf16) (k : Fin 512) (n : Fin 256) :
    lowWeights b s (ix2 k n) = weight (lowNibble (b (ix2 k n))) (s (ix2 ⟨k.val / 128, by omega⟩ n)) := by
  unfold lowWeights scaled weight
  rw [← low_kernel]
  pointwise

/-- A chunk's high weight at row `k`, column `n`. -/
theorem highWeights_apply (b : Vec Ideal S512x256 .i8) (s : Vec Ideal S4x256 .bf16) (k : Fin 512) (n : Fin 256) :
    highWeights b s (ix2 k n) = weight (highNibble (b (ix2 k n))) (s (ix2 ⟨k.val / 128, by omega⟩ n)) := by
  unfold highWeights scaled weight
  rw [← high_kernel]
  pointwise

/-- A step at row `r`, column `n`: the accumulator plus the two sums over the chunk's 512 rows. -/
theorem step_apply (acc : FVec Ideal S256x256 .f32) (b : Vec Ideal S512x256 .i8) (sl sh : Vec Ideal S4x256 .bf16)
    (xl xh : Vec Ideal S256x512 .bf16) (r n : Fin 256) :
    step acc b sl sh xl xh (ix2 r n)
      = acc (ix2 r n)
        + (∑ k : Fin 512, xl (ix2 r k) * weight (lowNibble (b (ix2 k n))) (sl (ix2 ⟨k.val / 128, by omega⟩ n)))
        + ∑ k : Fin 512, xh (ix2 r k) * weight (highNibble (b (ix2 k n))) (sh (ix2 ⟨k.val / 128, by omega⟩ n)) := by
  unfold step
  pointwise [lowWeights_apply, highWeights_apply]

end Cert.Int4

end
-- ==== Proof.Projection.lean ====
/-
  A block's projection read at one element: the body's eight chunks of 512 packed rows are the sums over all 4096 rows.

  `dot x b s` is one element of an int4 projection: from a row `x` of 8192 activations, a column `b` of 4096 packed bytes
  and a column `s` of 64 scales, the low fields against the first 4096 activations plus the high fields against the last
  4096. `step_chunk` reads chunk `c`'s step, at any `c`; `projection_apply` puts the eight together; `out_apply` is the
  element that the body stores.
-/
module

public import proofs.«01_k».proof.Proof.Block

@[expose] public section

set_option maxRecDepth 16384

noncomputable section

namespace Cert.Int4

open Idealize.ShloMosaic Idealize.SL.Sem
open Cert.KernelIdeal Cert.KernelIdeal.Gen
open scoped BigOperators

/-- Packed row `k`'s low term: activation `k` times the weight of the low field, whose scale is group `k / 128`'s. -/
def lowTerm (x : Fin 8192 → EReal) (b : Fin 4096 → BitVec 8) (s : Fin 64 → EReal) (k : Fin 4096) : EReal :=
  x ⟨k.val, by omega⟩ * weight (lowNibble (b k)) (s ⟨k.val / 128, by omega⟩)
/-- Packed row `k`'s high term: activation `4096 + k` times the weight of the high field, scale `32 + k / 128`. -/
def highTerm (x : Fin 8192 → EReal) (b : Fin 4096 → BitVec 8) (s : Fin 64 → EReal) (k : Fin 4096) : EReal :=
  x ⟨4096 + k.val, by omega⟩ * weight (highNibble (b k)) (s ⟨32 + k.val / 128, by omega⟩)
/-- One element of an int4 projection. -/
def dot (x : Fin 8192 → EReal) (b : Fin 4096 → BitVec 8) (s : Fin 64 → EReal) : EReal :=
  (∑ k, lowTerm x b s k) + ∑ k, highTerm x b s k
/-- One element of the result: the gate projection, times its logistic, times the up projection. -/
def swiglu (x : Fin 8192 → EReal) (bg : Fin 4096 → BitVec 8) (sg : Fin 64 → EReal) (bu : Fin 4096 → BitVec 8) (su : Fin 64 → EReal) : EReal :=
  dot x bg sg * Ideal.logistic (dot x bg sg) * dot x bu su

variable (x : Vec Ideal S256x8192 .bf16) (w : Vec Ideal S4096x256 .i8) (s : Vec Ideal S64x256 .bf16) (r n : Fin 256)

/-- Row `r`'s low terms and column `n`'s, and the high ones. -/
abbrev lowAt : Fin 4096 → EReal := lowTerm (fun k => x (ix2 r k)) (fun k => w (ix2 k n)) (fun g => s (ix2 g n))
@[inherit_doc lowAt]
abbrev highAt : Fin 4096 → EReal := highTerm (fun k => x (ix2 r k)) (fun k => w (ix2 k n)) (fun g => s (ix2 g n))

/-- Chunk `c`'s step adds the chunk's low terms, then its high terms. -/
theorem step_chunk (c : Fin 8) (acc : FVec Ideal S256x256 .f32)
    (hw : ∀ a, (![512 * c.val, 0] : Fin 2 → Nat) a + S512x256.size a ≤ S4096x256.size a)
    (hl : ∀ a, (![4 * c.val, 0] : Fin 2 → Nat) a + S4x256.size a ≤ S64x256.size a)
    (hh : ∀ a, (![32 + 4 * c.val, 0] : Fin 2 → Nat) a + S4x256.size a ≤ S64x256.size a)
    (kl : ∀ a, (![0, 512 * c.val] : Fin 2 → Nat) a + S256x512.size a ≤ S256x8192.size a)
    (kh : ∀ a, (![0, 4096 + 512 * c.val] : Fin 2 → Nat) a + S256x512.size a ≤ S256x8192.size a) :
    step acc (View.ld w (Rect.unit (s := S4096x256) ![512 * c.val, 0] S512x256.size hw))
        (View.ld s (Rect.unit (s := S64x256) ![4 * c.val, 0] S4x256.size hl))
        (View.ld s (Rect.unit (s := S64x256) ![32 + 4 * c.val, 0] S4x256.size hh))
        (View.ld x (Rect.unit (s := S256x8192) ![0, 512 * c.val] S256x512.size kl))
        (View.ld x (Rect.unit (s := S256x8192) ![0, 4096 + 512 * c.val] S256x512.size kh)) (ix2 r n)
      = acc (ix2 r n) + (∑ k : Fin 512, lowAt x w s r n (row c k)) + ∑ k : Fin 512, highAt x w s r n (row c k) := by
  rw [step_apply]
  have e (k : Fin 512) : 4 * c.val + k.val / 128 = (512 * c.val + k.val) / 128 := by omega
  refine congrArg₂ (· + ·) (congrArg (acc (ix2 r n) + ·) (Finset.sum_congr rfl fun k _ => ?_)) (Finset.sum_congr rfl fun k _ => ?_)
  · unfold lowAt lowTerm
    pointwise
    simp only [Nat.add_assoc, e]
  · unfold highAt highTerm
    pointwise
    simp only [Nat.add_assoc, e]

/-- A block's projection at row `r`, column `n`. -/
theorem projection_apply :
    projection x w s (ix2 r n) = dot (fun k => x (ix2 r k)) (fun k => w (ix2 k n)) (fun g => s (ix2 g n)) := by
  unfold dot
  refine Eq.trans ?_ (chunks_eq (lowAt x w s r n) (highAt x w s r n) (fun c => ∑ k : Fin 512, lowAt x w s r n (row c k))
    (fun c => ∑ k : Fin 512, highAt x w s r n (row c k)) (fun _ => rfl) (fun _ => rfl))
  unfold projection
  refine (step_chunk x w s r n 7 _ _ _ _ _ _).trans (congrArg (· + _ + _) ?_)
  refine (step_chunk x w s r n 6 _ _ _ _ _ _).trans (congrArg (· + _ + _) ?_)
  refine (step_chunk x w s r n 5 _ _ _ _ _ _).trans (congrArg (· + _ + _) ?_)
  refine (step_chunk x w s r n 4 _ _ _ _ _ _).trans (congrArg (· + _ + _) ?_)
  refine (step_chunk x w s r n 3 _ _ _ _ _ _).trans (congrArg (· + _ + _) ?_)
  refine (step_chunk x w s r n 2 _ _ _ _ _ _).trans (congrArg (· + _ + _) ?_)
  refine (step_chunk x w s r n 1 _ _ _ _ _ _).trans (congrArg (· + _ + _) ?_)
  refine (step_chunk x w s r n 0 _ _ _ _ _ _).trans (congrArg (· + _ + _) ?_)
  exact Ideal.ofBits_zero_f32

/-- The element the body stores at row `r`, column `n` of its block. -/
theorem out_apply (wu : Vec Ideal S4096x256 .i8) (su : Vec Ideal S64x256 .bf16) :
    out0_5 x w s wu su (ix2 r n)
      = swiglu (fun k => x (ix2 r k)) (fun k => w (ix2 k n)) (fun g => s (ix2 g n)) (fun k => wu (ix2 k n)) (fun g => su (ix2 g n)) := by
  rw [out_eq]
  unfold swiglu
  rw [← projection_apply, ← projection_apply]
  rfl

end Cert.Int4

end
-- ==== Proof.Reference.lean ====
/-
  What the reference computes, read at one element: `swiglu` of the row of activations and of the columns of packed bytes
  and scales (`reference_apply`). The reference's last operation reshapes its (256, 2816) matrix to (256, 1, 2816);
  `result` is the matrix before it, as a function of the activations as a (256, 8192) matrix.
-/
module

public import proofs.«01_k».proof.Proof.Projection
public import proofs.«01_k».proof.Proof.Gen.ReferenceIdeal.Run

@[expose] public section

set_option maxRecDepth 16384

noncomputable section

namespace Cert.Int4

open Idealize.ShloMosaic Idealize.ShloMosaic.TcCoe Idealize.SL.Sem
open Cert.ReferenceIdeal Cert.ReferenceIdeal.Gen
open scoped BigOperators

/-- The reference's weights from fields `v` (converted to bf16) and the scales of its 32 groups of 128 rows. -/
def refScaled (v : FVec Ideal S4096x2816 .bf16) (s : FVec Ideal S32x2816 .bf16) : FVec Ideal S4096x2816 .bf16 :=
  shapeCast S4096x2816 (mulf (shapeCast S32x128x2816 (subf v (broadcastInDim S4096x2816 ![] bcast_S_S4096x2816 (constant S_ .bf16 0x4100#16))) shapeCasts_S4096x2816_S32x128x2816)
    (broadcastInDim S32x128x2816 ![0, 1, 2] bcast_S32x1x2816_S32x128x2816_0_1_2 (broadcastInDim S32x1x2816 ![0, 2] bcast_S32x2816_S32x1x2816_0_2 s))) shapeCasts_S32x128x2816_S4096x2816

/-- The reference's projection of the activation matrix `x` by packed codes `w` with scales `s`. -/
def refProjection (x : FVec Ideal S256x8192 .bf16) (w : Vec Ideal S4096x2816 .i8) (s : Vec Ideal S64x2816 .bf16) : FVec Ideal S256x2816 .f32 :=
  addf
    (Host.dotGeneral dot_S256x4096_S4096x2816_S256x2816_1_0_0_1_n_n none (extractStridedSlice S256x4096 ![0, 0] x slices_S256x8192_S256x4096_0_0)
      (refScaled (sitofp .bf16 (andi (extui 32 w natLt_8_32) (broadcastInDim S4096x2816 ![] bcast_S_S4096x2816 (constantI S_ 32 15#32))))
        (extractStridedSlice S32x2816 ![0, 0] s slices_S64x2816_S32x2816_0_0)))
    (Host.dotGeneral dot_S256x4096_S4096x2816_S256x2816_1_0_0_1_n_n none (extractStridedSlice S256x4096 ![0, 4096] x slices_S256x8192_S256x4096_0_4096)
      (refScaled (sitofp .bf16 (Host.shrsi (extui 32 w natLt_8_32) (broadcastInDim S4096x2816 ![] bcast_S_S4096x2816 (constantI S_ 32 4#32))))
        (extractStridedSlice S32x2816 ![32, 0] s slices_S64x2816_S32x2816_32_0)))

/-- The reference's gated product of two projections, `g · (1 / (1 + exp(−g))) · u`, rounded to bf16. -/
def refGated (g u : FVec Ideal S256x2816 .f32) : FVec Ideal S256x2816 .bf16 :=
  truncf .bf16 (mulf (mulf g (Host.divf (broadcastInDim S256x2816 ![] bcast_S_S256x2816 (constant S_ .f32 0x3F800000#32))
    (addf (broadcastInDim S256x2816 ![] bcast_S_S256x2816 (constant S_ .f32 0x3F800000#32)) (Host.exp (Host.negf g))))) u) bitsLt_bf16_f32

/-- The reference's matrix before its last reshape. -/
def result (x : FVec Ideal S256x8192 .bf16) (wg : Vec Ideal S4096x2816 .i8) (sg : Vec Ideal S64x2816 .bf16) (wu : Vec Ideal S4096x2816 .i8)
    (su : Vec Ideal S64x2816 .bf16) : FVec Ideal S256x2816 .bf16 :=
  refGated (refProjection x wg sg) (refProjection x wu su)

set_option maxHeartbeats 4000000 in
/-- The reference's result is `result` of the reshaped activations, reshaped. -/
theorem reference_eq (m : (ℓ : Loc nD τ sig) → Buf (Elt Ideal) ℓ) (c : Dev nD) :
    Cert.ReferenceIdeal.Value.res_out0 m c
      = shapeCast S256x1x2816 (result (shapeCast S256x8192 (m ((c.tc : Thread nD τ).loc main_arg0)) shapeCasts_S256x1x8192_S256x8192)
          (m ((c.tc : Thread nD τ).loc main_arg1)) (m ((c.tc : Thread nD τ).loc main_arg2)) (m ((c.tc : Thread nD τ).loc main_arg3))
          (m ((c.tc : Thread nD τ).loc main_arg4))) shapeCasts_S256x2816_S256x1x2816 := rfl

/-- A weight of the reference at packed row `k`, column `n`: the field less 8, times the scale of group `k / 128`. -/
theorem refScaled_apply (v : FVec Ideal S4096x2816 .bf16) (s : FVec Ideal S32x2816 .bf16) (k : Fin 4096) (n : Fin 2816) :
    refScaled v s (ix2 k n) = weight (v (ix2 k n)) (s (ix2 ⟨k.val / 128, by omega⟩ n)) := by
  unfold refScaled weight
  pointwise

variable (x : FVec Ideal S256x8192 .bf16) (w : Vec Ideal S4096x2816 .i8) (s : Vec Ideal S64x2816 .bf16) (r : Fin 256) (n : Fin 2816)

/-- A projection of the reference at row `r`, column `n`. -/
theorem refProjection_apply :
    refProjection x w s (ix2 r n) = dot (fun k => x (ix2 r k)) (fun k => w (ix2 k n)) (fun g => s (ix2 g n)) := by
  unfold refProjection dot
  pointwise [refScaled_apply]
  refine congrArg₂ (· + ·) (Finset.sum_congr rfl fun k _ => ?_) (Finset.sum_congr rfl fun k _ => ?_)
  · unfold lowTerm
    rw [← low_reference]
  · unfold highTerm
    rw [← high_reference]

/-- The reference at row `r`, column `n`. -/
theorem result_apply (wu : Vec Ideal S4096x2816 .i8) (su : Vec Ideal S64x2816 .bf16) :
    result x w s wu su (ix2 r n)
      = swiglu (fun k => x (ix2 r k)) (fun k => w (ix2 k n)) (fun g => s (ix2 g n)) (fun k => wu (ix2 k n)) (fun g => su (ix2 g n)) := by
  unfold result swiglu
  rw [← refProjection_apply, ← refProjection_apply]
  unfold refGated Ideal.logistic
  pointwise

end Cert.Int4

end
-- ==== Proof.Array.lean ====
/-
  What the kernel's result holds after the run, over the extended reals.

  The grid has 11 points; point `t` reads columns `256 t` to `256 t + 255` of the packed codes and scales, and the whole
  activation matrix, and writes the same columns of the (256, 2816) result array. `block_eq` says that what point `t`
  writes back is its block of the reference's matrix; the 11 blocks cover the array (`cover`), so the array ends at that
  matrix (`final_array`). The last host operation reshapes the array to (256, 1, 2816) (`final_result`), and `run` states
  the whole run: the result at the reference's value of the arguments, the arguments unchanged.
-/
module

public import proofs.«01_k».proof.Proof.Reference

@[expose] public section

set_option maxRecDepth 16384

noncomputable section

namespace Cert.Int4

open Idealize.ShloMosaic Idealize.ShloMosaic.TcCoe Idealize.SL.Sem
open Idealize.ShloMosaic.Pipeline (Dat)
open Cert.KernelIdeal Cert.KernelIdeal.Gen
open scoped BigOperators

variable (m : (ℓ : Loc nD τ sig) → Buf (Elt Ideal) ℓ) (ρ : Dev nD → PrngReg)

/-- The activations as a matrix: the first argument without its unit axis. -/
abbrev acts (c : Dev nD) : Vec Ideal S256x8192 .bf16 :=
  shapeCast S256x8192 (m ((c : Thread nD τ).loc main_arg0)) shapeCasts_S256x1x8192_S256x8192

/-- The reference's matrix of the kernel's arguments. -/
abbrev matrix (c : Dev nD) : Buf (Elt Ideal) ((c : Thread nD τ).loc main_v1) :=
  result (acts m c) (m ((c : Thread nD τ).loc main_arg1)) (m ((c : Thread nD τ).loc main_arg2))
    (m ((c : Thread nD τ).loc main_arg3)) (m ((c : Thread nD τ).loc main_arg4))

/-- The region finds the activations reshaped by the host operation before it. -/
theorem V_acts (c : Dev nD) : V m c main_v0 = acts m c := by
  show StableHlo.after (List.flatten [hostOps0]) (fun b => m (c, b)) (Proc.devRef .tc main_v0) = _
  simp only [hostOps0, List.flatten_cons, List.flatten_nil, List.append_nil]
  after_results_simp
  rfl

/-! ## The windows' blocks at an index -/

/-- The windows' block indices at point `t`: the activations' block never moves, every other window is at column block `t`. -/
theorem index_eq : ∀ t : Fin grid0.N,
    (win0_0.index t 0 = 0 ∧ win0_0.index t 1 = 0) ∧ (win0_1.index t 0 = 0 ∧ win0_1.index t 1 = t.val)
    ∧ (win0_2.index t 0 = 0 ∧ win0_2.index t 1 = t.val) ∧ (win0_3.index t 0 = 0 ∧ win0_3.index t 1 = t.val)
    ∧ (win0_4.index t 0 = 0 ∧ win0_4.index t 1 = t.val) ∧ (win0_5.index t 0 = 0 ∧ win0_5.index t 1 = t.val) := by
  decide +kernel

/-- Column `n` of block `t`, as a column of the array. -/
abbrev col (t : Fin grid0.N) (n : Fin 256) : Fin 2816 :=
  ⟨256 * t.val + n.val, by have : t.val < 11 := lt_of_lt_of_eq t.isLt N_0; omega⟩

/-- The activations' block is the whole matrix. -/
theorem acts_block (c : Dev nD) (t : Fin grid0.N) (r : Fin 256) (k : Fin 8192) :
    iblk m c 0 t (ix2 r k) = acts m c (ix2 r k) := by
  rw [← V_acts]
  refine congrArg (V m c main_v0) (funext fun a => Fin.ext ?_)
  have h := index_eq t
  match a with
  | ⟨0, _⟩ => show win0_0.index t 0 * 256 + 1 * r.val = r.val; omega
  | ⟨1, _⟩ => show win0_0.index t 1 * 8192 + 1 * k.val = k.val; omega

/-- The gate codes' block at point `t`. -/
theorem gate_codes (c : Dev nD) (t : Fin grid0.N) (k : Fin 4096) (n : Fin 256) :
    iblk m c 1 t (ix2 k n) = m ((c : Thread nD τ).loc main_arg1) (ix2 k (col t n)) := by
  rw [← V_main_arg1 m c]
  refine congrArg (V m c main_arg1) (funext fun a => Fin.ext ?_)
  have h := index_eq t
  match a with
  | ⟨0, _⟩ => show win0_1.index t 0 * 4096 + 1 * k.val = k.val; omega
  | ⟨1, _⟩ => show win0_1.index t 1 * 256 + 1 * n.val = 256 * t.val + n.val; omega

/-- The gate scales' block at point `t`. -/
theorem gate_scales (c : Dev nD) (t : Fin grid0.N) (g : Fin 64) (n : Fin 256) :
    iblk m c 2 t (ix2 g n) = m ((c : Thread nD τ).loc main_arg2) (ix2 g (col t n)) := by
  rw [← V_main_arg2 m c]
  refine congrArg (V m c main_arg2) (funext fun a => Fin.ext ?_)
  have h := index_eq t
  match a with
  | ⟨0, _⟩ => show win0_2.index t 0 * 64 + 1 * g.val = g.val; omega
  | ⟨1, _⟩ => show win0_2.index t 1 * 256 + 1 * n.val = 256 * t.val + n.val; omega

/-- The up codes' block at point `t`. -/
theorem up_codes (c : Dev nD) (t : Fin grid0.N) (k : Fin 4096) (n : Fin 256) :
    iblk m c 3 t (ix2 k n) = m ((c : Thread nD τ).loc main_arg3) (ix2 k (col t n)) := by
  rw [← V_main_arg3 m c]
  refine congrArg (V m c main_arg3) (funext fun a => Fin.ext ?_)
  have h := index_eq t
  match a with
  | ⟨0, _⟩ => show win0_3.index t 0 * 4096 + 1 * k.val = k.val; omega
  | ⟨1, _⟩ => show win0_3.index t 1 * 256 + 1 * n.val = 256 * t.val + n.val; omega

/-- The up scales' block at point `t`. -/
theorem up_scales (c : Dev nD) (t : Fin grid0.N) (g : Fin 64) (n : Fin 256) :
    iblk m c 4 t (ix2 g n) = m ((c : Thread nD τ).loc main_arg4) (ix2 g (col t n)) := by
  rw [← V_main_arg4 m c]
  refine congrArg (V m c main_arg4) (funext fun a => Fin.ext ?_)
  have h := index_eq t
  match a with
  | ⟨0, _⟩ => show win0_4.index t 0 * 64 + 1 * g.val = g.val; omega
  | ⟨1, _⟩ => show win0_4.index t 1 * 256 + 1 * n.val = 256 * t.val + n.val; omega

/-! ## The result array -/

/-- The element that point `t` stores at row `r`, column `n` of its block is the reference's at column `256 t + n`. -/
theorem block_apply (c : Dev nD) (t : Fin grid0.N) (r n : Fin 256) :
    out0_5 (iblk m c 0 t) (iblk m c 1 t) (iblk m c 2 t) (iblk m c 3 t) (iblk m c 4 t) (ix2 r n) = matrix m c (ix2 r (col t n)) := by
  refine (out_apply _ _ _ r n _ _).trans (Eq.trans ?_ (result_apply _ _ _ r (col t n) _ _).symm)
  have e0 := funext fun k => acts_block m c t r k
  have e1 := funext fun k => gate_codes m c t k n
  have e2 := funext fun g => gate_scales m c t g n
  have e3 := funext fun k => up_codes m c t k n
  have e4 := funext fun g => up_scales m c t g n
  exact congr (congr (congr (congr (congrArg swiglu e0) e1) e2) e3) e4

/-- What point `t` writes back is block `t` of the reference's matrix. -/
theorem block_eq (c : Dev nD) (t : Fin cfg0.N) :
    (dats m 0 c).flushed 5 t = ((cfg0.win 5).blk t).view.read (Elt Ideal) (matrix m c) := by
  show (cfg0.win 5).cut (grid0.coords t) ((dats m 0 c).after 5 t) = _
  rw [after0_5]
  funext j
  obtain ⟨r, n, rfl⟩ : ∃ (r n : Fin 256), j = ix2 r n := ⟨j 0, j 1, eq_ix2 j⟩
  refine (block_apply m c t r n).trans ?_
  refine congrArg (matrix m c) (funext fun a => Fin.ext ?_)
  have h := index_eq t
  match a with
  | ⟨0, _⟩ => show r.val = win0_5.index t 0 * 256 + 1 * r.val; omega
  | ⟨1, _⟩ => show 256 * t.val + n.val = win0_5.index t 1 * 256 + 1 * n.val; omega

/-- An index is in point `t`'s block when its column is. -/
theorem mem_block (t : Fin cfg0.N) (i : S256x2816.Idx) (h : 256 * t.val ≤ (i 1 : Nat) ∧ (i 1 : Nat) < 256 * t.val + 256) :
    i ∈ ((cfg0.win 5).blk t).view.set := by
  show i ∈ ((View.whole main_v1).slice (win0_5.rect t)).set
  rw [View.set_slice_whole, Rect.mem_set_unit]
  have h0 : (i 0 : Nat) < 256 := (i 0).isLt
  have e := index_eq t
  intro a
  match a with
  | ⟨0, _⟩ => show win0_5.index t 0 * 256 ≤ (i 0 : Nat) ∧ (i 0 : Nat) < win0_5.index t 0 * 256 + 256; omega
  | ⟨1, _⟩ => show win0_5.index t 1 * 256 ≤ (i 1 : Nat) ∧ (i 1 : Nat) < win0_5.index t 1 * 256 + 256; omega

/-- The blocks cover the result array. -/
theorem cover (i : S256x2816.Idx) : ∃ t : Fin cfg0.N, (cfg0.win 5).flush t = true ∧ i ∈ ((cfg0.win 5).blk t).view.set := by
  have h1 : (i 1 : Nat) < 2816 := (i 1).isLt
  have hN : cfg0.N = 11 := N_0
  exact ⟨⟨(i 1 : Nat) / 256, by omega⟩, flush0_5 _, mem_block _ i (by dsimp only; omega)⟩

/-- The result array ends at the reference's matrix. -/
theorem final_array (c : Dev nD) : (dats m 0 c).arrAt 5 cfg0.N = matrix m c :=
  (dats m 0 c).arrAt_eq_of_cover 5 (matrix m c) (fun t _ => block_eq m c t) cover

/-- The kernel's result: the matrix with a unit axis. -/
abbrev final (c : Dev nD) : Buf (Elt Ideal) ((c : Thread nD τ).loc main_v2) :=
  shapeCast S256x1x2816 (matrix m c) shapeCasts_S256x2816_S256x1x2816

/-- The host operation after the region leaves the array reshaped. -/
theorem final_result (c : Dev nD) : Pipeline.afterTail₀ cfgs (dats m) 0 (V0 m) [hostOps1] c main_v2 = final m c := by
  unfold Pipeline.afterTail₀
  simp only [hostOps1, List.flatten_cons, List.flatten_nil, List.append_nil]
  after_results_simp
  have e := (Pipeline.withArrays_arr spec0 launch0.win.arr_inj c (V0 m c) (fun w => (dats m 0 c).arrAt w cfg0.N) 5).trans (final_array m c)
  exact congrArg (fun a => shapeCast S256x1x2816 a shapeCasts_S256x2816_S256x1x2816) e

/-- The run: the result at the reference's value of the arguments, the arguments unchanged. -/
theorem run : θ_run defs (onTc (τ := τ) (main (F := Ideal))) ⟨m, fun _ => 0, ρ⟩ fun r => ∀ c : Dev nD,
      r.2.mem ((c : Thread nD τ).loc main_v2) = final m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨((h c).2 main_v2 (Pipeline.mem_restRefs_of main_v2 (by decide) (by decide))).trans (final_result m c),
      ((h c).2 main_arg0 (Pipeline.mem_restRefs_of main_arg0 (by decide) (by decide))).trans (W_main_arg0 m (dats m) c),
      (((h c).1 1).trans ((dats m 0 c).arrAt_in 1 rfl _)).trans (V_main_arg1 m c),
      (((h c).1 2).trans ((dats m 0 c).arrAt_in 2 rfl _)).trans (V_main_arg2 m c),
      (((h c).1 3).trans ((dats m 0 c).arrAt_in 3 rfl _)).trans (V_main_arg3 m c),
      (((h c).1 4).trans ((dats m 0 c).arrAt_in 4 rfl _)).trans (V_main_arg4 m c)⟩)
    (run_main m ρ)

end Cert.Int4

end
-- ==== Proof.lean ====
/-
  The proof of `Cert.Claim`: the kernel, its reading over the extended reals and the reference each terminate with their
  arguments unchanged and their semaphores at zero; the idealization rewrote nothing; and over the extended reals the
  kernel and the reference end with the same result on the same arguments, with no precondition.

  Proof/Algebra.lean has the numbers (a byte's two fields, the sum in chunks), Proof/Block.lean and Proof/Projection.lean
  what one block computes, Proof/Reference.lean what the reference computes, Proof/Array.lean what the result array holds
  and the equation of the two.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Array
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel terminates from any launch, with its arguments unchanged and its semaphores at zero. -/
theorem frame_kernel : Cert.quiescent_Kernel := fun m ρ _ => Cert.Kernel.Gen.frame m ρ
/-- So does its reading over the extended reals. -/
theorem frame_ideal : Cert.quiescent_KernelIdeal := fun m ρ _ => Cert.KernelIdeal.Gen.frame m ρ
/-- So does the reference, a line of host operations. -/
theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- Over the extended reals, on equal arguments, the kernel and the reference end with the same result. -/
theorem algebraic : Cert.algebraic_KernelIdeal_ReferenceIdeal := by
  intro m ρ m' ρ' _ hagree
  refine ⟨fun c => Cert.Int4.final m c, Cert.Int4.run m ρ, ?_⟩
  refine (θ_run Cert.ReferenceIdeal.defs _ _).mono (fun _ h c => ⟨(h c).1.trans ((Cert.Int4.reference_eq m' c).trans ?_), (h c).2⟩)
    (Cert.ReferenceIdeal.Value.run (F := Ideal) m' ρ')
  obtain ⟨h0, h1, h2, h3, h4⟩ := hagree c
  rw [h0, h1, h2, h3, h4]

/-- The five claims. -/
theorem claim : Cert.Claim := ⟨Cert.Kernel.Gen.facts, Cert.KernelIdeal.Gen.facts, Cert.ReferenceIdeal.Gen.facts,
  frame_kernel, frame_ideal, frame_reference, trivial, algebraic⟩

end Cert.Proof

end
